-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S16x128 : Shape := ⟨2, ![16, 128]⟩
abbrev S16 : Shape := ⟨1, ![16]⟩
abbrev S1x16 : Shape := ⟨2, ![1, 16]⟩
abbrev S16x16384 : Shape := ⟨2, ![16, 16384]⟩
abbrev S32 : Shape := ⟨1, ![32]⟩
abbrev S1 : Shape := ⟨1, ![1]⟩
abbrev S_ : Shape := ⟨0, ![]⟩
abbrev S512x128 : Shape := ⟨2, ![512, 128]⟩
abbrev S16x1 : Shape := ⟨2, ![16, 1]⟩
abbrev S4096x128 : Shape := ⟨2, ![4096, 128]⟩
abbrev S4096x16 : Shape := ⟨2, ![4096, 16]⟩
abbrev S16x4096 : Shape := ⟨2, ![16, 4096]⟩
abbrev S16384x16 : Shape := ⟨2, ![16384, 16]⟩

abbrev nBuf : Space → Nat
  | .hbm => 6
  | .vmem => 4
  | .smem => 0
  | _ => 0

abbrev bufTy : (tb : Table) → Fin (tcTables nBuf tb) → BufTy
  | .hbm, ⟨0, _⟩ => ⟨S16384x128, .f32⟩
  | .hbm, ⟨1, _⟩ => ⟨S16x128, .f32⟩
  | .hbm, ⟨2, _⟩ => ⟨S16, .f32⟩
  | .hbm, ⟨3, _⟩ => ⟨S1x16, .f32⟩
  | .hbm, ⟨4, _⟩ => ⟨S16x16384, .f32⟩
  | .hbm, ⟨5, _⟩ => ⟨S16384x16, .f32⟩
  | .local _ .vmem, ⟨0, _⟩ => ⟨S16x128, .f32⟩
  | .local _ .vmem, ⟨1, _⟩ => ⟨S1x16, .f32⟩
  | .local _ .vmem, ⟨2, _⟩ => ⟨S16x16384, .f32⟩
  | .local _ .vmem, ⟨3, _⟩ => ⟨S16384x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x128 : Shape := ⟨2, ![16384, 128]⟩
abbrev S16x128 : Shape := ⟨2, ![16, 128]⟩
abbrev S16 : Shape := ⟨1, ![16]⟩
abbrev S128x16 : Shape := ⟨2, ![128, 16]⟩
abbrev S16384x16 : Shape := ⟨2, ![16384, 16]⟩
abbrev S1x16 : Shape := ⟨2, ![1, 16]⟩

abbrev nBuf : Space → Nat
  | .hbm => 8
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16x128, .f32⟩
  | .hbm, ⟨2, _⟩ => ⟨S16, .f32⟩
  | .hbm, ⟨3, _⟩ => ⟨S128x16, .f32⟩
  | .hbm, ⟨4, _⟩ => ⟨S16384x16, .f32⟩
  | .hbm, ⟨5, _⟩ => ⟨S1x16, .f32⟩
  | .hbm, ⟨6, _⟩ => ⟨S16384x16, .f32⟩
  | .hbm, ⟨7, _⟩ => ⟨S16384x16, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdeal.Body.lean ====
/- What one call of the kernel's body does, for the program `KernelIdeal`: it streams the rows of `x` from main memory
   into its scratch, thirty-two copies started before any is waited for, and stores four column bands of the result. The
   theorem is stated over any staging buffers, so that the frame and the value modules use it as it stands. -/
module

public import proofs.«01_k».proof.Proof.Gen.KernelIdeal.Frame.Runs

@[expose] public section

set_option maxRecDepth 16384

noncomputable section

namespace Cert.KernelIdeal.Streamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- The thirty-two semaphores of the body's own copies, every one at zero. -/
abbrev idle (c : Dev nD) : sProp 𝕄 :=
  Pipeline.ownSems0 (Ix := Unit) (Name := ℕ) (U := Pipeline.UD sig nD τ) (Lvl := ℕ) (Val := Elt F) (τ := τ) osem0 c

-- every copy takes its own window of the scratch, so a window returning is put back under the thirty-one taken after it:
-- the two `rejoin` bounds are raised for that
set_option maxHeartbeats 2000000 in
set_option sl_exec.dmaWindow true in
set_option sl_exec.dmaWindowSet true in
set_option sl_exec.rejoinFuel 80 in
set_option sl_exec.rejoinHeartbeats 1000000 in
/-- The body's run. Given the weights `w` and the bias `b` in their staging buffers, the output's staging buffer and the
    scratch at anything, the array `x` in main memory and every semaphore of the body at zero, the body ends with the
    inputs as they were, the semaphores at zero again, and the output's staging buffer holding the listed stores, whatever it
    held before. The list of stores is part of what is proved: it is the one the run of the program meets. -/
noncomputable def bodyRun (c : Dev nD) (wRef : Memref sig .tc .vmem S16x128 .f32) (hwRef : wRef.IsWhole)
    (bRef : Memref sig .tc .vmem S1x16 .f32) (hbRef : bRef.IsWhole)
    (oRef : Memref sig .tc .vmem S16x16384 .f32) (hoRef : oRef.IsWhole)
    (xBuf : Memref sig .tc .vmem S16384x128 .f32) (hxBuf : xBuf.IsWhole)
    (w : Vec F S16x128 .f32) (b : Vec F S1x16 .f32) (x : HbBuf0 (F := F) c hbM0_0) :
    { stores : List (View.Piece (Elt F) S16x16384 .f32) //
      ∀ (W : Waits sig Unit) (K : PUnit → sProp 𝕄),
        iprop(owns (c : Thread nD τ) wRef fullShare w ∗ owns (c : Thread nD τ) bRef fullShare b
            ∗ (∃ d, owns (c : Thread nD τ) oRef fullShare d) ∗ (∃ d, owns (c : Thread nD τ) xBuf fullShare d)
            ∗ idle c ∗ hbPt0 c hbM0_0 x ∗ owes (c : Thread nD τ) 0 W
            ∗ (iprop(owns (c : Thread nD τ) wRef fullShare w ∗ owns (c : Thread nD τ) bRef fullShare b
                ∗ (∃ f, oRef.view.loc (c : Thread nD τ) ↦[oRef.view.set]{fullShare} oRef.view.writes (Elt F) f stores)
                ∗ (∃ d, owns (c : Thread nD τ) xBuf fullShare d)
                ∗ idle c ∗ hbPt0 c hbM0_0 x ∗ (∃ W', owes (c : Thread nD τ) 0 W')) -∗ K ⟨⟩))
          ⊢ wp frame (wpE (defs₀ (F := F)) Variants.none c none) Set.univ
              (cc0__linear_kernel (Memref.whole main_arg0) (Memref.isWhole_whole _) wRef hwRef bRef hbRef oRef hoRef
                xBuf hxBuf cc0_scratch1) K } := by
  refine ⟨?_, fun W K => ?run⟩
  case run =>
    simp only [cc0__linear_kernel_eq_skeleton]; unfold cc0__linear_kernel_skel
    simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton]
    rw [show (idle c : sProp 𝕄) = _ from ownSems00_eq c]
    unfold owns
    iintro ⟨⟨%fw, %hw, Hw⟩, ⟨%fb, %hb, Hb⟩, ⟨%d, %fo, -, Ho⟩, ⟨%e, %fx, -, Hs⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, Hx, HW, Hk⟩
    obtain rfl := hwRef.eq_unread hw; obtain rfl := hbRef.eq_unread hb
    sl_exec
    sl_step
    iapply Hk
    isplitl [Hw]
    · iexists _; isplitr; · ipureintro; exact hwRef.read_unread _
      iexact Hw
    isplitl [Hb]
    · iexists _; isplitr; · ipureintro; exact hbRef.read_unread _
      iexact Hb
    isplitl [Ho]; · iexists _; iexact Ho
    isplitl [Hs]
    · iexists _, _; isplitr
      swap; · iexact Hs
      ipureintro; rfl
    isplitr [Hx HW]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      iexact Hq31
    isplitl [Hx]; · iexact Hx
    iexists _; iexact HW

end Cert.KernelIdeal.Streamed

end
-- ==== Proof.KernelIdeal.Frame.lean ====
/- The frame of `KernelIdeal`: from any memory the program terminates without a fault, its arguments end unchanged and every
   semaphore reads zero. The pipeline has one point; what the body does there is `bodyRun`. -/
module

public import proofs.«01_k».proof.Proof.KernelIdeal.Body
public import Idealize.ShloMosaic.Lib.Claim

@[expose] public section

set_option maxRecDepth 16384

noncomputable section

namespace Cert.KernelIdeal.Streamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The stores the body makes at the pipeline's point: on the point's staging buffers, at the launch's arrays. -/
def storesAt (c : Dev nD) (t : Fin cfg0.N) : List (View.Piece (Elt F) S16x16384 .f32) :=
  (bodyRun c (ms0_0 t) (hs0_0 t) (ms0_1 t) (hs0_1 t) (ms0_2 t) (hs0_2 t) scM0_0 (Memref.isWhole_whole _)
    (iblk m c 0 t) (iblk m c 1 t) (V m c main_arg0)).1

/-- The stores of the body fill the output's block: every element lies in one of the four column bands. -/
theorem storesAt_cover (c : Dev nD) (t : Fin cfg0.N) (y : S16x16384.Idx) : ∃ p ∈ storesAt m c t, y ∈ p.1.set :=
  View.cover_of_tiledL (storesAt m c t) S16x4096.size (by sl_kernel_rfl) y

/-- What the output's staging buffer holds after the body: the stores, read back. -/
def outAt (c : Dev nD) (t : Fin cfg0.N) : Vec F S16x16384 .f32 :=
  VO0_2.read (Elt F) (VO0_2.writes (Elt F) VO0_2.junk (storesAt m c t))

/-- The pipeline's data on core `c`: the arrays at what the launch finds in them; after the body the two inputs at their
    blocks and the output at `outAt`; between points the scratch at anything, the body's semaphores at zero and `x` as the
    launch has it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦD osem0 spec0 H0 (V m) c
  q _ := fullShare
  owed _ := 0

/-- Each array of the pipeline is what the launch finds there. -/
theorem dats_arr (c : Dev nD) (w : Fin cfg0.W) : (dats m 0 c).A w = V m c (Pipeline.arrRef spec0 w) := by
  dsimp only [dats]

/-- The weights' staging buffer is left at its block. -/
theorem after_w (c : Dev nD) (t : Fin cfg0.N) : (dats m 0 c).after 0 t = iblk m c 0 t := by dsimp only [dats]

/-- The bias's staging buffer is left at its block. -/
theorem after_b (c : Dev nD) (t : Fin cfg0.N) : (dats m 0 c).after 1 t = iblk m c 1 t := by dsimp only [dats]

/-- The output's staging buffer is left at the body's stores. -/
theorem after_o (c : Dev nD) (t : Fin cfg0.N) : (dats m 0 c).after 2 t = outAt m c t := by dsimp only [dats]

/-- The body finds the weights' block in their staging buffer. -/
theorem before_w (c : Dev nD) (t : Fin cfg0.N) (d) : (dats m 0 c).before 0 t d = iblk m c 0 t :=
  before0_0_of m (dats m 0 c) (dats_arr m c 0) (after_w m c) t d

/-- The body finds the bias's block in its staging buffer. -/
theorem before_b (c : Dev nD) (t : Fin cfg0.N) (d) : (dats m 0 c).before 1 t d = iblk m c 1 t :=
  before0_1_of m (dats m 0 c) (dats_arr m c 1) (after_b m c) t d

/-- What holds between points, part by part: the scratch, the generator's register, the idle semaphores and `x`. -/
theorem between_eq (c : Dev nD) (t : Fin (cfg0.N + 1)) :
    ((dats m 0 c).Φ t : sProp 𝕄)
      = iprop((∃ d, owns (c : Thread nD τ) scM0_0 fullShare d) ∗ (∃ r, prngReg c r) ∗ idle c
          ∗ hbPt0 c hbM0_0 (V m c main_arg0)) := by
  rw [show (dats m 0 c).Φ t = Pipeline.ΦD osem0 spec0 H0 (V m) c from rfl, PhiD0_eq, ← ownSems00_eq]

/-- The body at the point does what the pipeline asks of it: from what holds between points and the staging buffers at
    what the pipeline put there, it ends with the same between points and the staging buffers at the data's. -/
theorem body_sound (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t))) := by
  unfold bodyAt0
  simp only [before_w, before_b]
  rw [between_eq, between_eq, after_w, after_b, after_o]
  unfold Dat.owesAt Pipeline.owesWithin
  rw [show (dats m 0 c).owed t.castSucc = 0 from rfl, show (dats m 0 c).owed t.succ = 0 from rfl]
  iintro ⟨⟨Hs, Hg, Hq, Hx⟩, ⟨%W, -, HW⟩, ⟨%d0, Hw⟩, ⟨%d1, Hb⟩, ⟨%d2, Ho⟩⟩
  iapply ((bodyRun c _ _ _ _ _ _ _ _ (iblk m c 0 t) (iblk m c 1 t) (V m c main_arg0)).2 W _)
  isplitl [Hw]; · iexact Hw
  isplitl [Hb]; · iexact Hb
  isplitl [Ho]; · iexists _; iexact Ho
  isplitl [Hs]; · iexact Hs
  isplitl [Hq]; · iexact Hq
  isplitl [Hx]; · iexact Hx
  isplitl [HW]; · iexact HW
  iintro ⟨Hw, Hb, ⟨%e, Ho⟩, Hs, Hq, Hx, ⟨%W', HW⟩⟩
  isplitl [Hs Hg Hq Hx]
  · isplitl [Hs]; · iexact Hs
    isplitl [Hg]; · iexact Hg
    isplitl [Hq]; · iexact Hq
    iexact Hx
  isplitl [HW]
  · iexists W'; isplitr; · ipureintro; exact fun _ _ => Or.inl trivial
    iexact HW
  isplitl [Hw]; · iexact Hw
  isplitl [Hb]; · iexact Hb
  unfold owns; iexists _; isplitr
  swap; · iexact Ho
  ipureintro; exact View.read_writes_of_cover _ _ _ _ _ (storesAt_cover m c t)

/-- The body the pipeline calls at a point is the printed body at the point's buffers. -/
theorem defs₀_at (t : Fin cfg0.N) :
    defs₀ (F := F) .tc cfg0.body (cfg0.bodyArgs t (cfg0.slots t)) = bodyAt0 t := by
  unfold defs₀; rw [Defs.onTc_tc]

/-- What the pipeline's theorem asks of the body, at every point. -/
theorem body_meets (c : Dev nD) :
    BodyObligation (dats (F := F) m 0 c) (defs₀ (F := F)) Variants.none () Set.univ := fun t => by
  rw [bigSep_W0, bigSep_W0, defs₀_at]
  exact triple_restated (body_sound m c t) rfl .rfl fun _ => .rfl

-- the launch theorem's implicit arguments are read off its conclusion, under plain definitions
set_option backward.isDefEq.respectTransparency.types false in
set_option maxHeartbeats 800000 in
/-- The whole run, from any memory with its semaphores at zero: it terminates, every array of the pipeline ends at what the
    pipeline's data say, everything else as the transposition after the region leaves it, every semaphore at zero. -/
theorem run_quiescent : θ_run defs (onTc (τ := τ) (main (F := F))) (s₀ m ρ) (fun r =>
    (Pipeline.FramePost cfgs (dats m) 0 (Pipeline.afterTail₀ cfgs (dats m) 0 (V0 m) [hostOps1])) r
      ∧ r.2.sem = fun _ => 0) :=
  Pipeline.θ_run_frame_dma_around (Q' := _) cfgs (dats m) (0 : Fin 1) launch0 osem0 defs₀ Variants.none ownSemFacts0
    H0 H0_sub m ρ main (hbody := fun c => (body_meets m c).loose)
    (hshare := fun c => (dats m 0 c).share_full fun _ => rfl) (howed := fun _ _ => rfl) (V₀ := V0 m)
    (opss := [hostOps1]) (hsub := sfx_but) (hfresh := sfx_fresh) (hkeep := sfx_keeps) (hmain := hmain m Variants.none)
    (hA := dats_arr m) (hin := fun _ => .rfl) (hout := fun _ => .rfl)

/-- The whole run, without the semaphores. -/
theorem run_arrays : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: from any memory the run terminates, the three arguments end as they began, every semaphore at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_arr m) (run_arrays m ρ))
    ((θ_run defs _ _).mono (fun _ h => h.2) (run_quiescent m ρ))

end Cert.KernelIdeal.Streamed

end
-- ==== Proof.KernelIdeal.Linear.lean ====
/- The mathematics of the two programs, over the extended reals and away from any run: what one band's arithmetic computes,
   and that its transposed whole is the reference's linear layer. -/
module

public import proofs.«01_k».proof.Proof.Gen.KernelIdeal.Skeleton
public import proofs.«01_k».proof.Proof.Gen.ReferenceIdeal.Run
public import Idealize.ShloMosaic.Lib.Pointwise

@[expose] public section

set_option maxRecDepth 16384

noncomputable section

namespace Cert.KernelIdeal.Streamed

open Idealize.ShloMosaic Idealize.ShloMosaic.TcCoe
open Cert.KernelIdeal Cert.KernelIdeal.Gen

/-- The linear layer with its result transposed: entry `(o, r)` is row `r` of `x` against row `o` of the weights, plus entry
    `o` of the bias. -/
def layerT (x : FVec Ideal S16384x128 .f32) (w : FVec Ideal S16x128 .f32) (b : FVec Ideal S16 .f32) :
    FVec Ideal S16x16384 .f32 :=
  fun i => (∑ k : Fin 128, x (ix2 (i 1) k) * w (ix2 (i 0) k)) + b (ix1 (i 0))

/-- The linear layer as the reference spells it: `x` times the transposed weights, plus the bias repeated on every row. -/
def layer (x : FVec Ideal S16384x128 .f32) (w : FVec Ideal S16x128 .f32) (b : FVec Ideal S16 .f32) :
    FVec Ideal S16384x16 .f32 :=
  addf (Host.dotGeneral Cert.ReferenceIdeal.dot_S16384x128_S128x16_S16384x16_1_0_0_1_n_n none x
      (transpose Cert.ReferenceIdeal.S128x16 [1, 0] w Cert.ReferenceIdeal.Gen.transposes_S16x128_S128x16_1_0))
    (broadcastInDim Cert.ReferenceIdeal.S16384x16 ![0, 1] Cert.ReferenceIdeal.Gen.bcast_S1x16_S16384x16_0_1
      (broadcastInDim Cert.ReferenceIdeal.S1x16 ![1] Cert.ReferenceIdeal.Gen.bcast_S16_S1x16_1 b))

/-- One band's arithmetic, at an entry `(o, r)`: row `r` of the band's rows against row `o` of the weights, plus entry `o`
    of the bias. -/
theorem band_at (b : FVec Ideal S1x16 .f32) (rows : FVec Ideal S4096x128 .f32) (w : FVec Ideal S16x128 .f32)
    (j : S16x4096.Idx) :
    k0_pay3 (F := Ideal) (k0_pay2 b) rows w j
      = (∑ k : Fin 128, rows (ix2 (j 1) k) * w (ix2 (j 0) k)) + b (ix2 0 (j 0)) := by
  pointwise [k0_pay3, k0_pay2]

/-- Transposing the transposed layer gives the reference's layer. -/
theorem layer_eq (x : FVec Ideal S16384x128 .f32) (w : FVec Ideal S16x128 .f32) (b : FVec Ideal S16 .f32) :
    transpose S16384x16 [1, 0] (layerT x w b) transposes_S16x16384_S16384x16_1_0 = layer x w b := by
  funext i
  pointwise [layerT, layer]

end Cert.KernelIdeal.Streamed

end
-- ==== Proof.KernelIdeal.Value.lean ====
/- What `KernelIdeal` computes, over the extended reals: its result is the linear layer `x` times the transposed weights plus
   the bias. -/
module

public import proofs.«01_k».proof.Proof.KernelIdeal.Frame
public import proofs.«01_k».proof.Proof.KernelIdeal.Linear
public import Idealize.ShloMosaic.Lib.Pipeline.ValueKit

@[expose] public section

set_option maxRecDepth 16384

noncomputable section

namespace Cert.KernelIdeal.Streamed

open Idealize.ShloMosaic Idealize.ShloMosaic.TcCoe Idealize.SL.Sem
open Idealize.ShloMosaic.Pipeline (Dat)
open Cert.KernelIdeal Cert.KernelIdeal.Gen

/-- A load of a whole staging buffer reads what the buffer holds. -/
theorem load_all {s : Shape} (M : Memref sig .tc .vmem s .f32) (hM : M.IsWhole) (v : Vec Ideal s .f32)
    {off : Fin s.rank → ℕ} (h0 : off = fun _ => 0) (inb : ∀ a, off a + s.size a ≤ s.size a) :
    View.readAt (Elt Ideal) M.view (Rect.unit off s.size inb).toLoadRect (hM.unread v) = v := by
  rw [View.readAt_eq_ld, hM.read_unread, View.ld_unit_zero h0]

/-- Once copies that cover the scratch have each landed their own rows of `x` in it, a load of 4096 rows reads those rows
    of `x`. -/
theorem rows_read (v : View sig .tc .vmem S16384x128 .f32) (L : List (View.Piece (Elt Ideal) S16384x128 .f32))
    (x : FVec Ideal S16384x128 .f32) (hL : ∀ p ∈ L, ∀ j : p.1.shape.Idx, p.2 j = x (p.1.emb j))
    (hcov : ∀ y : S16384x128.Idx, ∃ p ∈ L, y ∈ p.1.set) (off : Fin 2 → ℕ)
    (inb : ∀ a, off a + S4096x128.size a ≤ S16384x128.size a) :
    v.readCov L (Rect.unit (s := S16384x128) off S4096x128.size inb).toLoadRect
      = fun j => x ((Rect.unit (s := S16384x128) off S4096x128.size inb).emb j) := by
  funext j
  unfold View.readCov
  rw [View.readAt_apply]
  exact View.read_writes_apply_of_pieces v v.junk x L hL _ (hcov _)

/-- One band: its arithmetic on the rows of `x` that start at row `off` is the transposed layer in the columns that start
    at `off`. -/
theorem band_layer (x : FVec Ideal S16384x128 .f32) (w : FVec Ideal S16x128 .f32) (b : FVec Ideal S1x16 .f32) (off : ℕ)
    (inb : ∀ a, (![off, 0] : Fin 2 → ℕ) a + S4096x128.size a ≤ S16384x128.size a)
    (inb' : ∀ a, (![0, off] : Fin 2 → ℕ) a + S16x4096.size a ≤ S16x16384.size a) (j : S16x4096.Idx) :
    k0_pay3 (F := Ideal) (k0_pay2 b) (fun j => x ((Rect.unit (s := S16384x128) ![off, 0] S4096x128.size inb).emb j)) w j
      = layerT x w (fun i => b (ix2 0 (i 0))) ((Rect.unit (s := S16x16384) ![0, off] S16x4096.size inb').emb j) := by
  rw [band_at]
  unfold layerT
  have hc : ∀ k : Fin 128, (Rect.unit (s := S16384x128) ![off, 0] S4096x128.size inb).emb (ix2 (j 1) k)
      = ix2 ((Rect.unit (s := S16x16384) ![0, off] S16x4096.size inb').emb j 1) k := fun k =>
    funext fun a => Fin.ext (by fin_cases a <;> simp [Rect.emb_apply])
  have ho : (Rect.unit (s := S16x16384) ![0, off] S16x4096.size inb').emb j 0 = j 0 :=
    Fin.ext (by simp [Rect.emb_apply])
  simp only [hc, ho]
  rfl

/-- One store of the body, off what it loaded: the bias and the weights whole, and the band's rows from a scratch that
    copies of `x`'s rows cover. -/
theorem stored_band (c : Dev nD) (wRef : Memref sig .tc .vmem S16x128 .f32) (hwRef : wRef.IsWhole)
    (bRef : Memref sig .tc .vmem S1x16 .f32) (hbRef : bRef.IsWhole) (v : View sig .tc .vmem S16384x128 .f32)
    (L : List (View.Piece (Elt Ideal) S16384x128 .f32)) (w : Vec Ideal S16x128 .f32) (b : Vec Ideal S1x16 .f32)
    (x : FVec Ideal S16384x128 .f32) (hL : ∀ p ∈ L, ∀ j : p.1.shape.Idx, p.2 j = x (p.1.emb j))
    (hcov : ∀ y : S16384x128.Idx, ∃ p ∈ L, y ∈ p.1.set) (off : ℕ)
    (inb : ∀ a, (![off, 0] : Fin 2 → ℕ) a + S4096x128.size a ≤ S16384x128.size a)
    (inb' : ∀ a, (![0, off] : Fin 2 → ℕ) a + S16x4096.size a ≤ S16x16384.size a) (j : S16x4096.Idx) :
    k0_pay3 (F := Ideal)
        (k0_pay2 (View.readAt (Elt Ideal) bRef.view (Rect.unit ![0, 0] S1x16.size inb_S1x16_S1x16_0_0).toLoadRect
          (hbRef.unread b)))
        (v.readCov L (Rect.unit (s := S16384x128) ![off, 0] S4096x128.size inb).toLoadRect)
        (View.readAt (Elt Ideal) wRef.view (Rect.unit ![0, 0] S16x128.size inb_S16x128_S16x128_0_0).toLoadRect
          (hwRef.unread w)) j
      = layerT x w (fun i => b (ix2 0 (i 0))) ((Rect.unit (s := S16x16384) ![0, off] S16x4096.size inb').emb j) := by
  rw [load_all bRef hbRef b (by decide), load_all wRef hwRef w (by decide), rows_read v L x hL hcov]
  exact band_layer x w b off inb inb' j

/-- Every store of the body puts, at each place it writes, the transposed layer's number there. -/
theorem stores_eq (c : Dev nD) (wRef : Memref sig .tc .vmem S16x128 .f32) (hwRef : wRef.IsWhole)
    (bRef : Memref sig .tc .vmem S1x16 .f32) (hbRef : bRef.IsWhole)
    (oRef : Memref sig .tc .vmem S16x16384 .f32) (hoRef : oRef.IsWhole)
    (xBuf : Memref sig .tc .vmem S16384x128 .f32) (hxBuf : xBuf.IsWhole)
    (w : Vec Ideal S16x128 .f32) (b : Vec Ideal S1x16 .f32) (x : HbBuf0 (F := Ideal) c hbM0_0) :
    ∀ p ∈ (bodyRun c wRef hwRef bRef hbRef oRef hoRef xBuf hxBuf w b x).1, ∀ j : p.1.shape.Idx,
      p.2 j = layerT x w (fun i => b (ix2 0 (i 0))) (p.1.emb j) := by
  unfold bodyRun
  dsimp only
  sl_unfold_words
  simp only [List.forall_mem_cons]
  refine ⟨?_, ?_, ?_, ?_, fun _ h => absurd h List.not_mem_nil⟩
  all_goals
    intro j
    refine stored_band c wRef hwRef bRef hbRef xBuf.view _ w b x ?_ ?_ _ _ _ j
    · simp only [List.forall_mem_cons]
      and_intros
      all_goals first | exact fun _ => rfl | exact fun _ h => absurd h List.not_mem_nil
    · exact View.cover_of_tiledL _ S512x128.size (by sl_kernel_rfl)

variable (m : (ℓ : Loc nD τ sig) → Buf (Elt Ideal) ℓ) (ρ : Dev nD → PrngReg)

/-- The one block of the weights starts at their first entry. -/
theorem index_w : ∀ a, win0_0.index t0_0 a = 0 := by decide +kernel

/-- The one block of the bias row starts at its first entry. -/
theorem index_b : ∀ a, win0_1.index t0_0 a = 0 := by decide +kernel

/-- The weights' block is the whole array of weights. -/
theorem block_w (c : Dev nD) (t : Fin cfg0.N) : iblk m c 0 t = m ((c : Thread nD τ).loc main_arg1) := by
  rw [fin_N0 t]
  funext y
  blk_ext [iblk, V_main_arg1, index_w]

/-- The bias's block is the bias as one row. -/
theorem block_b (c : Dev nD) (t : Fin cfg0.N) (o : Fin 16) :
    iblk m c 1 t (ix2 0 o) = m ((c : Thread nD τ).loc main_arg2) (ix1 o) := by
  rw [fin_N0 t]
  have h : iblk m c 1 t0_0 (ix2 0 o) = V m c main_v0 (ix2 0 o) := by blk_ext [iblk, index_b]
  have e : V m c main_v0 = shapeCast S1x16 (m ((c : Thread nD τ).loc main_arg2)) shapeCasts_S16_S1x16 := by
    show StableHlo.after hostOps0 _ _ = _
    after_results
    rfl
  rw [h, e]
  pointwise

/-- What the body leaves in the output's staging buffer: the transposed layer of the launch's arguments. -/
theorem outAt_eq (c : Dev nD) (t : Fin cfg0.N) :
    outAt m c t = layerT (m ((c : Thread nD τ).loc main_arg0)) (m ((c : Thread nD τ).loc main_arg1))
      (m ((c : Thread nD τ).loc main_arg2)) := by
  have hb : (fun i : S16.Idx => iblk m c 1 t (ix2 0 (i 0))) = m ((c : Thread nD τ).loc main_arg2) :=
    funext fun i => (block_b m c t (i 0)).trans (congrArg _ (funext fun a => by fin_cases a; rfl))
  rw [← hb, ← block_w m c t, ← V_main_arg0 m c]
  funext y
  exact View.read_writes_apply_of_pieces VO0_2 VO0_2.junk _ (storesAt m c t)
    (stores_eq c _ _ _ _ _ _ _ _ (iblk m c 0 t) (iblk m c 1 t) (V m c main_arg0)) y (storesAt_cover m c t y)

/-- The array the pipeline writes ends at the transposed layer. -/
theorem array_eq (c : Dev nD) :
    (dats m 0 c).arrAt 2 cfg0.N = layerT (m ((c : Thread nD τ).loc main_arg0)) (m ((c : Thread nD τ).loc main_arg1))
      (m ((c : Thread nD τ).loc main_arg2)) := by
  refine (dats m 0 c).arrAt_eq_of_after_last 2 t0_0 (by decide +kernel) _ fun j => ?_
  rw [after_o, outAt_eq]
  rfl

/-- The result after the whole run: the layer, the region's array transposed. -/
theorem result_eq (c : Dev nD) :
    Pipeline.afterTail₀ cfgs (dats m) 0 (V0 m) [hostOps1] c main_v2
      = layer (m ((c : Thread nD τ).loc main_arg0)) (m ((c : Thread nD τ).loc main_arg1))
          (m ((c : Thread nD τ).loc main_arg2)) := by
  rw [← layer_eq, ← array_eq]
  unfold Pipeline.afterTail₀
  rw [← Pipeline.withArrays_arr spec0 winFacts0.arr_inj c (V0 m c) (fun w => (dats m 0 c).arrAt w cfg0.N) 2]
  show StableHlo.after hostOps1 _ _ = _
  after_results

/-- The kernel's run, over the extended reals: its result is the layer of the launch's arguments, which end unchanged. -/
theorem run_layer : θ_run defs (onTc (τ := τ) (main (F := Ideal))) ⟨m, fun _ => 0, ρ⟩ (fun r => ∀ c : Dev nD,
      r.2.mem ((c.tc : Thread nD τ).loc main_v2)
        = layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨((h.1 c).2 main_v2 (Pipeline.mem_restRefs_of main_v2 (by decide) (by decide))).trans (result_eq m c),
      h.2.1 c⟩)
    (θ_run_and (run_arrays m ρ) (frame_holds m ρ))

end Cert.KernelIdeal.Streamed

end
-- ==== Proof.lean ====
/- The certificate: the streamed linear layer runs safely at every float instance, and over the extended reals its result is
   the reference's `x` times the transposed weights plus the bias. -/
module

public import proofs.«01_k».proof.Defs
public import proofs.«01_k».proof.Proof.Gen.Kernel
public import proofs.«01_k».proof.Proof.Kernel.Frame
public import proofs.«01_k».proof.Proof.Gen.KernelIdeal
public import proofs.«01_k».proof.Proof.KernelIdeal.Frame
public import proofs.«01_k».proof.Proof.KernelIdeal.Value
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel runs without a fault, its arguments unchanged, every semaphore back at zero. -/
theorem frame_kernel : Cert.quiescent_Kernel :=
  fun m g _ => Cert.Kernel.Streamed.frame_holds m g

/-- The same for the kernel read over the extended reals. -/
theorem frame_kernelIdeal : Cert.quiescent_KernelIdeal :=
  fun m g _ => Cert.KernelIdeal.Streamed.frame_holds m g

/-- The same for the reference, which has no semaphore at all. -/
theorem frame_referenceIdeal : Cert.quiescent_ReferenceIdeal :=
  fun m g _ => (θ_run Cert.ReferenceIdeal.defs _ _).mono
    (fun r h => ⟨fun c => (h c).2, sem_eq_zero_of_no_sems (by decide) _⟩) (Cert.ReferenceIdeal.Value.run m g)

/-- Over the extended reals the kernel and the reference end with the same result, the linear layer of the arguments. -/
theorem values_agree : Cert.algebraic_KernelIdeal_ReferenceIdeal := fun m g m' g' _ hagree =>
  ⟨fun c => Cert.KernelIdeal.Streamed.layer (m ((c.tc : Thread _ _).loc Cert.KernelIdeal.main_arg0))
      (m ((c.tc : Thread _ _).loc Cert.KernelIdeal.main_arg1)) (m ((c.tc : Thread _ _).loc Cert.KernelIdeal.main_arg2)),
    Cert.KernelIdeal.Streamed.run_layer m g,
    (θ_run Cert.ReferenceIdeal.defs _ _).mono
      (fun r h c => ⟨(h c).1.trans (by rw [(hagree c).1, (hagree c).2.1, (hagree c).2.2]; rfl), (h c).2⟩)
      (Cert.ReferenceIdeal.Value.run m' g')⟩

theorem claim : Cert.Claim :=
  ⟨Cert.Kernel.Gen.facts, Cert.KernelIdeal.Gen.facts, Cert.ReferenceIdeal.Gen.facts,
    frame_kernel, frame_kernelIdeal, frame_referenceIdeal, trivial, values_agree⟩

end Cert.Proof

end
